-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v5) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1024x100x256 : Shape := ⟨3, ![1024, 100, 256]⟩
abbrev S100x256 : Shape := ⟨2, ![100, 256]⟩
abbrev S16x100x256 : Shape := ⟨3, ![16, 100, 256]⟩
abbrev S1x100x256 : Shape := ⟨3, ![1, 100, 256]⟩

abbrev nBuf : Space → Nat
  | .hbm => 3
  | .vmem => 3
  | .smem => 0
  | _ => 0

abbrev bufTy : (tb : Table) → Fin (tcTables nBuf tb) → BufTy
  | .hbm, ⟨0, _⟩ => ⟨S1024x100x256, .f32⟩
  | .hbm, ⟨1, _⟩ => ⟨S100x256, .f32⟩
  | .hbm, ⟨2, _⟩ => ⟨S1024x100x256, .f32⟩
  | .local _ .vmem, ⟨0, _⟩ => ⟨S100x256, .f32⟩
  | .local _ .vmem, ⟨1, _⟩ => ⟨S16x100x256, .f32⟩
  | .local _ .vmem, ⟨2, _⟩ => ⟨S16x100x256, .f32⟩
  | _, _ => ⟨S1024x100x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S100x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x100x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S1024x100x256 : Shape := ⟨3, ![1024, 100, 256]⟩
abbrev S100x256 : Shape := ⟨2, ![100, 256]⟩
abbrev S100 : Shape := ⟨1, ![100]⟩
abbrev S_ : Shape := ⟨0, ![]⟩
abbrev S100x1 : Shape := ⟨2, ![100, 1]⟩
abbrev S1 : Shape := ⟨1, ![1]⟩
abbrev S1x1 : Shape := ⟨2, ![1, 1]⟩
abbrev S1x100x256 : Shape := ⟨3, ![1, 100, 256]⟩
abbrev S1x1x1x100x1x256 : Shape := ⟨6, ![1, 1, 1, 100, 1, 256]⟩
abbrev S1024x1x1x100x1x256 : Shape := ⟨6, ![1024, 1, 1, 100, 1, 256]⟩

abbrev nBuf : Space → Nat
  | .hbm => 30
  | .vmem => 0
  | .smem => 0
  | _ => 0

abbrev bufTy : (tb : Table) → Fin (tcTables nBuf tb) → BufTy
  | .hbm, ⟨0, _⟩ => ⟨S1024x100x256, .f32⟩
  | .hbm, ⟨1, _⟩ => ⟨S100x256, .f32⟩
  | .hbm, ⟨2, _⟩ => ⟨S100, .i32⟩
  | .hbm, ⟨3, _⟩ => ⟨S_, .i32⟩
  | .hbm, ⟨4, _⟩ => ⟨S100, .i32⟩
  | .hbm, ⟨5, _⟩ => ⟨S100, .i1⟩
  | .hbm, ⟨6, _⟩ => ⟨S_, .i32⟩
  | .hbm, ⟨7, _⟩ => ⟨S100, .i32⟩
  | .hbm, ⟨8, _⟩ => ⟨S100, .i32⟩
  | .hbm, ⟨9, _⟩ => ⟨S100, .i32⟩
  | .hbm, ⟨10, _⟩ => ⟨S100x1, .i32⟩
  | .hbm, ⟨11, _⟩ => ⟨S1, .i32⟩
  | .hbm, ⟨12, _⟩ => ⟨S_, .i32⟩
  | .hbm, ⟨13, _⟩ => ⟨S100x1, .i32⟩
  | .hbm, ⟨14, _⟩ => ⟨S100x1, .i1⟩
  | .hbm, ⟨15, _⟩ => ⟨S1x1, .i32⟩
  | .hbm, ⟨16, _⟩ => ⟨S100x1, .i32⟩
  | .hbm, ⟨17, _⟩ => ⟨S100x1, .i1⟩
  | .hbm, ⟨18, _⟩ => ⟨S100x1, .i1⟩
  | .hbm, ⟨19, _⟩ => ⟨S_, .i1⟩
  | .hbm, ⟨20, _⟩ => ⟨S100, .i1⟩
  | .hbm, ⟨21, _⟩ => ⟨S100x256, .f32⟩
  | .hbm, ⟨22, _⟩ => ⟨S100x256, .i1⟩
  | .hbm, ⟨23, _⟩ => ⟨S_, .f32⟩
  | .hbm, ⟨24, _⟩ => ⟨S100x256, .f32⟩
  | .hbm, ⟨25, _⟩ => ⟨S100x256, .f32⟩
  | .hbm, ⟨26, _⟩ => ⟨S1x100x256, .f32⟩
  | .hbm, ⟨27, _⟩ => ⟨S1x1x1x100x1x256, .f32⟩
  | .hbm, ⟨28, _⟩ => ⟨S1024x1x1x100x1x256, .f32⟩
  | .hbm, ⟨29, _⟩ => ⟨S1024x100x256, .f32⟩
  | _, _ => ⟨S1024x100x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩

abbrev nD : Nat := 1
abbrev τ : Topo := Topo.v7x

variable {F : FTy → Type} [FloatOps F]
-- ==== Proof.Lookup.lean ====
/-
  The position table, read back: what the host's lookup, mask and tile are worth at one index.

  `reference` takes rows 0 … 99 of the (100, 256) table by a gather, guards the gather with a range test that puts NaN
  where a row number is out of range, and repeats the (100, 256) result 1024 times along a new leading axis through
  rank-6 shapes. Every row number here is in range, so the lookup is the identity and element (b, l, f) of the result is
  element (l, f) of the table. The statements are over the literal shapes and take the shape relations as hypotheses, so
  one statement serves the program at every float instance.
-/
module

public import Idealize.ShloMosaic.PureOps
public import Idealize.ShloMosaic.Lib.Pipeline.Value
public import Idealize.ShloMosaic.Lib.ReduceAll
public import Idealize.ShloMosaic.Lib.Routing.Ops
public import Idealize.ShloMosaic.Lib.ValueIdxRank6

@[expose] public section

noncomputable section

namespace Cert.Lookup

open Idealize.ShloMosaic

abbrev Sc : Shape := ⟨0, ![]⟩
abbrev One : Shape := ⟨1, ![1]⟩
abbrev OneOne : Shape := ⟨2, ![1, 1]⟩
abbrev Rows : Shape := ⟨1, ![100]⟩
abbrev Keys : Shape := ⟨2, ![100, 1]⟩
abbrev Table : Shape := ⟨2, ![100, 256]⟩
abbrev Table1 : Shape := ⟨3, ![1, 100, 256]⟩
abbrev Out : Shape := ⟨3, ![1024, 100, 256]⟩
abbrev Table6 : Shape := ⟨6, ![1, 1, 1, 100, 1, 256]⟩
abbrev Out6 : Shape := ⟨6, ![1024, 1, 1, 100, 1, 256]⟩

variable {α : Type}

/-- Where element (b, l, f) of the result comes from: (l, f). -/
abbrev pos (i : Out.Idx) : Table.Idx := fun a => match a with
  | ⟨0, _⟩ => ⟨(i 1).val, (i 1).isLt⟩
  | ⟨1, _⟩ => ⟨(i 2).val, (i 2).isLt⟩

/-- The table repeated for every batch element: what both programs compute. -/
def tiled (w : Table.Idx → α) : Out.Idx → α := fun i => w (pos i)

/-! ## The row numbers -/

/-- A row number below 100 is not negative as a signed word. -/
theorem not_neg : ∀ r < 100, IntOp.cmpi .slt (BitVec.ofNat 32 r) 0#32 = 0#1 := by decide

/-- A row number below 100 passes both halves of the range test. -/
theorem in_range : ∀ r < 100,
    IntOp.andi (IntOp.cmpi .sge (BitVec.ofNat 32 r) 0#32) (IntOp.cmpi .sle (BitVec.ofNat 32 r) 99#32) = 1#1 := by decide

/-- The row numbers after the lookup's wrapping of negative ones, as a column: entry (l, 0) is the word `l`. -/
theorem keys_apply (h0 h1 : Sc.BroadcastsInDim Rows ![]) (hk : Rows.BroadcastsInDim Keys ![0]) (j : Keys.Idx) :
    broadcastInDim Keys ![0] hk (select (cmpi .slt (iotaInDim Rows 32 0) (broadcastInDim Rows ![] h0 (constantI Sc 32 0#32)))
      (addi (iotaInDim Rows 32 0) (broadcastInDim Rows ![] h1 (constantI Sc 32 100#32))) (iotaInDim Rows 32 0)) j
      = BitVec.ofNat 32 (j 0).val := by
  have hj : (j 0).val < 100 := (j 0).isLt
  refine (broadcastInDim_apply _ hk _ j (fun a => match a with | ⟨0, _⟩ => ⟨(j 0).val, hj⟩ : Rows.Idx) (fun a => ?_)).trans ?_
  · obtain rfl : a = 0 := Subsingleton.elim _ _
    rfl
  · show (if IntOp.cmpi .slt (BitVec.ofNat 32 (j 0).val) 0#32 = 1#1 then _ else BitVec.ofNat 32 (j 0).val) = _
    rw [not_neg _ hj]
    rfl

/-- The range test, a reduction by `and` along the column's unit axis, holds of every row. -/
theorem mask_apply (keys : IVec Keys 32) (hkeys : ∀ j : Keys.Idx, keys j = BitVec.ofNat 32 (j 0).val)
    (h0 : Sc.BroadcastsInDim Keys ![]) (h1 : One.BroadcastsInDim OneOne ![1]) (h2 : OneOne.BroadcastsInDim Keys ![0, 1])
    (hr : Keys.ReducesTo [1] Rows) (hu : 0 < Sc.numel) (l : Rows.Idx) :
    Host.reduce IntOp.andi (andi (cmpi .sge keys (broadcastInDim Keys ![] h0 (constantI Sc 32 0#32)))
      (cmpi .sle keys (broadcastInDim Keys ![0, 1] h2 (broadcastInDim OneOne ![1] h1 (constantI One 32 99#32)))))
      (constantI Sc 1 1#1) hr hu l = 1#1 := by
  refine Host.reduce_andi_one _ _ hr hu l rfl fun j => ?_
  show IntOp.andi (IntOp.cmpi .sge (keys j) 0#32) (IntOp.cmpi .sle (keys j) 99#32) = 1#1
  rw [hkeys j]
  exact in_range _ (j 0).isLt

/-! ## The lookup -/

/-- The gather of rows 0 … 99, in order, is the table. -/
theorem gather_eq (d : GatherDims Table Keys Table) (hoff : d.offsetDims = [1]) (hcoll : d.collapsedSliceDims = [0])
    (hob : d.operandBatchingDims = []) (hsim : d.startIndexMap = [0]) (hivd : d.indexVectorDim = 1)
    (keys : IVec Keys 32) (hkeys : ∀ j : Keys.Idx, keys j = BitVec.ofNat 32 (j 0).val) (w : Table.Idx → α) :
    Host.gather d w keys = w := by
  funext y
  obtain ⟨l, f, rfl⟩ : ∃ (l : Fin 100) (f : Fin 256), y = ValueIdx.ix2 l f := ⟨y 0, y 1, ValueIdx.eq_ix2 y⟩
  exact Routing.gather_row (nb := 100) (B := 256) (n := 100) d hoff hcoll hob hsim hivd w keys l f l
    (hkeys (ValueIdx.ix2 l (0 : Fin 1))) (by norm_num)

/-- A select under the range test, broadcast along the rows, keeps its first branch everywhere. -/
theorem select_rows (m : IVec Rows 1) (hm : ∀ l, m l = 1#1) (hb : Rows.BroadcastsInDim Table ![0]) (x y : Table.Idx → α) :
    select (broadcastInDim Table ![0] hb m) x y = x := by
  funext i
  show (if broadcastInDim Table ![0] hb m i = 1#1 then x i else y i) = x i
  exact if_pos (hm _)

/-! ## The tile -/

/-- The repetition along a new leading axis, through the rank-6 shapes, read at (b, l, f): the table at (l, f). -/
theorem tile_eq (h1 : Table.BroadcastsInDim Table1 ![1, 2]) (h2 : Table1.ShapeCasts Table6)
    (h3 : Table6.BroadcastsInDim Out6 ![0, 1, 2, 3, 4, 5]) (h4 : Out6.ShapeCasts Out) (w : Table.Idx → α) :
    shapeCast Out (broadcastInDim Out6 ![0, 1, 2, 3, 4, 5] h3 (shapeCast Table6 (broadcastInDim Table1 ![1, 2] h1 w) h2)) h4
      = tiled w := by
  funext i
  have b0 : (i 0).val < 1024 := (i 0).isLt
  have b1 : (i 1).val < 100 := (i 1).isLt
  have b2 : (i 2).val < 256 := (i 2).isLt
  refine (shapeCast_apply _ h4 i (fun a => match a with
    | ⟨0, _⟩ => ⟨(i 0).val, b0⟩ | ⟨1, _⟩ => ⟨0, Nat.one_pos⟩ | ⟨2, _⟩ => ⟨0, Nat.one_pos⟩
    | ⟨3, _⟩ => ⟨(i 1).val, b1⟩ | ⟨4, _⟩ => ⟨0, Nat.one_pos⟩ | ⟨5, _⟩ => ⟨(i 2).val, b2⟩ : Out6.Idx) ?_).trans ?_
  · rw [Shape.rowMajor_val_six, Shape.rowMajor_val_three]
    show (((((i 0).val * 1 + 0) * 1 + 0) * 100 + (i 1).val) * 1 + 0) * 256 + (i 2).val
      = ((i 0).val * 100 + (i 1).val) * 256 + (i 2).val
    omega
  refine (broadcastInDim_apply _ h3 _ _ (fun a => match a with
    | ⟨0, _⟩ => ⟨0, Nat.one_pos⟩ | ⟨1, _⟩ => ⟨0, Nat.one_pos⟩ | ⟨2, _⟩ => ⟨0, Nat.one_pos⟩
    | ⟨3, _⟩ => ⟨(i 1).val, b1⟩ | ⟨4, _⟩ => ⟨0, Nat.one_pos⟩ | ⟨5, _⟩ => ⟨(i 2).val, b2⟩ : Table6.Idx)
    (fun a => match a with
      | ⟨0, _⟩ => rfl | ⟨1, _⟩ => rfl | ⟨2, _⟩ => rfl | ⟨3, _⟩ => rfl | ⟨4, _⟩ => rfl | ⟨5, _⟩ => rfl)).trans ?_
  refine (shapeCast_apply _ h2 _ (fun a => match a with
    | ⟨0, _⟩ => ⟨0, Nat.one_pos⟩ | ⟨1, _⟩ => ⟨(i 1).val, b1⟩ | ⟨2, _⟩ => ⟨(i 2).val, b2⟩ : Table1.Idx) ?_).trans ?_
  · rw [Shape.rowMajor_val_six, Shape.rowMajor_val_three]
    show (0 * 100 + (i 1).val) * 256 + (i 2).val
      = ((((0 * 1 + 0) * 1 + 0) * 100 + (i 1).val) * 1 + 0) * 256 + (i 2).val
    omega
  exact broadcastInDim_apply _ h1 w _ (pos i) (fun a => match a with | ⟨0, _⟩ => rfl | ⟨1, _⟩ => rfl)

end Cert.Lookup

end
-- ==== Proof.Launch.lean ====
/-
  The kernel's result array after the run, at both readings of the program.

  The grid has 64 points. Point t copies the whole table into 16 batch elements, 16 t … 16 t + 15, and writes them back.
  The 64 blocks cover the 1024 batch elements, so the array ends holding the table repeated (`Lookup.tiled`).
-/
module

public import proofs.«01_k».proof.Proof.Lookup
public import proofs.«01_k».proof.Proof.Gen.Kernel.Value
public import proofs.«01_k».proof.Proof.Gen.KernelIdeal.Value
public import Idealize.ShloMosaic.Lib.Pipeline.ValueKit

@[expose] public section

noncomputable section

open Idealize.ShloMosaic Idealize.ShloMosaic.TcCoe Idealize.SL.Sem
open Idealize.ShloMosaic.Pipeline (Dat)

/-! ## The kernel as printed -/

namespace Cert.Kernel.Tiles

open Cert.Kernel Cert.Kernel.Gen

variable {F : FTy → Type} [FloatOps F]
variable (m : (ℓ : Loc nD τ sig) → Buf (Elt F) ℓ)

/-- The table's window stays on the whole table. -/
theorem idx_in : ∀ t : Fin cfg0.N, win0_0.index t = ![0, 0] := (by decide +kernel : ∀ t : Fin grid0.N, _)

/-- The result's window at point `t` is on batch block `t`. -/
theorem idx_out : ∀ t : Fin cfg0.N, win0_1.index t = ![t.val, 0, 0] := (by decide +kernel : ∀ t : Fin grid0.N, _)

/-- The body loads the table from its origin. -/
theorem off_in : (![0, 0] : Fin 2 → Nat) = fun _ => 0 := funext fun a => by fin_cases a <;> rfl

/-- After the run the result array is the table repeated. -/
theorem final (c : Dev nD) :
    (dats m 0 c).arrAt 1 cfg0.N = Lookup.tiled (m ((c : Thread nD τ).loc main_arg1)) := by
  refine (dats m 0 c).arrAt_eq_of_covers 1 _ (by decide +kernel) fun t hf y => ?_
  blk_simp
  rw [after0_1]
  unfold out0_1
  rw [View.ld_unit_zero off_in]
  refine (Value.canon1_eq (iblk m c 0 t) y).trans ?_
  have e1 : (((win0_1.blk t).view.emb y) 1).val = (y 1).val := by blk_simp [idx_out]
  have e2 : (((win0_1.blk t).view.emb y) 2).val = (y 2).val := by blk_simp [idx_out]
  show V m c main_arg1 ((win0_0.blk t).view.emb (Value.ix1_0 y)) = m ((c : Thread nD τ).loc main_arg1) (Lookup.pos _)
  refine congrArg (m ((c : Thread nD τ).loc main_arg1)) (funext fun a => Fin.ext ?_)
  match a with
  | ⟨0, _⟩ => refine Eq.trans ?_ e1.symm; blk_simp [idx_in]
  | ⟨1, _⟩ => refine Eq.trans ?_ e2.symm; blk_simp [idx_in]

/-- The run: the result array ends at the table repeated, the arguments as launched. -/
theorem run (ρ : Dev nD → PrngReg) : θ_run defs (onTc (τ := τ) (main (F := F))) ⟨m, fun _ => 0, ρ⟩ fun r => ∀ c : Dev nD,
      r.2.mem ((c : Thread nD τ).loc main_v0) = Lookup.tiled (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel.Tiles

/-! ## The same program read over the extended reals -/

namespace Cert.KernelIdeal.Tiles

open Cert.KernelIdeal Cert.KernelIdeal.Gen

variable {F : FTy → Type} [FloatOps F]
variable (m : (ℓ : Loc nD τ sig) → Buf (Elt F) ℓ)

/-- The table's window stays on the whole table. -/
theorem idx_in : ∀ t : Fin cfg0.N, win0_0.index t = ![0, 0] := (by decide +kernel : ∀ t : Fin grid0.N, _)

/-- The result's window at point `t` is on batch block `t`. -/
theorem idx_out : ∀ t : Fin cfg0.N, win0_1.index t = ![t.val, 0, 0] := (by decide +kernel : ∀ t : Fin grid0.N, _)

/-- The body loads the table from its origin. -/
theorem off_in : (![0, 0] : Fin 2 → Nat) = fun _ => 0 := funext fun a => by fin_cases a <;> rfl

/-- After the run the result array is the table repeated. -/
theorem final (c : Dev nD) :
    (dats m 0 c).arrAt 1 cfg0.N = Lookup.tiled (m ((c : Thread nD τ).loc main_arg1)) := by
  refine (dats m 0 c).arrAt_eq_of_covers 1 _ (by decide +kernel) fun t hf y => ?_
  blk_simp
  rw [after0_1]
  unfold out0_1
  rw [View.ld_unit_zero off_in]
  refine (Value.canon1_eq (iblk m c 0 t) y).trans ?_
  have e1 : (((win0_1.blk t).view.emb y) 1).val = (y 1).val := by blk_simp [idx_out]
  have e2 : (((win0_1.blk t).view.emb y) 2).val = (y 2).val := by blk_simp [idx_out]
  show V m c main_arg1 ((win0_0.blk t).view.emb (Value.ix1_0 y)) = m ((c : Thread nD τ).loc main_arg1) (Lookup.pos _)
  refine congrArg (m ((c : Thread nD τ).loc main_arg1)) (funext fun a => Fin.ext ?_)
  match a with
  | ⟨0, _⟩ => refine Eq.trans ?_ e1.symm; blk_simp [idx_in]
  | ⟨1, _⟩ => refine Eq.trans ?_ e2.symm; blk_simp [idx_in]

/-- The run: the result array ends at the table repeated, the arguments as launched. -/
theorem run (ρ : Dev nD → PrngReg) : θ_run defs (onTc (τ := τ) (main (F := F))) ⟨m, fun _ => 0, ρ⟩ fun r => ∀ c : Dev nD,
      r.2.mem ((c : Thread nD τ).loc main_v0) = Lookup.tiled (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Tiles

end
-- ==== Proof.Host.lean ====
/-
  The reference's result after the run, at both readings of the program: the composed term of its host operations is
  the table repeated (`Lookup.tiled`), by the statements of Lookup.lean from the outside in: the tile, the select under the
  range test, the gather.
-/
module

public import proofs.«01_k».proof.Proof.Lookup
public import proofs.«01_k».proof.Proof.Gen.Reference.Run
public import proofs.«01_k».proof.Proof.Gen.ReferenceIdeal.Run

@[expose] public section

noncomputable section

open Idealize.ShloMosaic Idealize.ShloMosaic.TcCoe Idealize.SL.Sem

/-! ## The reference as printed -/

namespace Cert.Reference.Lookups

open Cert.Reference Cert.Reference.Gen

variable {F : FTy → Type} [FloatOps F]

/-- The run: the result ends at the table repeated, the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v5) = Lookup.tiled (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2⟩) (Value.run m ρ)
  have hk := Lookup.keys_apply bcast_S_S100 bcast_S_S100 bcast_S100_S100x1_0
  refine (Lookup.tile_eq _ _ _ _ _).trans (congrArg Lookup.tiled ?_)
  refine (Lookup.select_rows _ (Lookup.mask_apply _ hk _ _ _ _ _) _ _ _).trans ?_
  exact Lookup.gather_eq _ rfl rfl rfl rfl rfl _ hk _

end Cert.Reference.Lookups

/-! ## The same program read over the extended reals -/

namespace Cert.ReferenceIdeal.Lookups

open Cert.ReferenceIdeal Cert.ReferenceIdeal.Gen

variable {F : FTy → Type} [FloatOps F]

/-- The run: the result ends at the table repeated, the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v5) = Lookup.tiled (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2⟩) (Value.run m ρ)
  have hk := Lookup.keys_apply bcast_S_S100 bcast_S_S100 bcast_S100_S100x1_0
  refine (Lookup.tile_eq _ _ _ _ _).trans (congrArg Lookup.tiled ?_)
  refine (Lookup.select_rows _ (Lookup.mask_apply _ hk _ _ _ _ _) _ _ _).trans ?_
  exact Lookup.gather_eq _ rfl rfl rfl rfl rfl _ hk _

end Cert.ReferenceIdeal.Lookups

end
-- ==== Proof.lean ====
/-
  The certificate: the kernel copies the position table into every batch element, 16 of them per grid point, and that is
  the reference's lookup of rows 0 … 99 followed by its tile.

  Proof/Lookup.lean reads the reference's operations at one index. Proof/Host.lean reads the reference's run by them.
  Proof/Launch.lean reads the kernel's run. Both end at `Lookup.tiled` of the table, so the two value claims follow from
  the arguments' agreement.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import proofs.«01_k».proof.Proof.Launch
public import proofs.«01_k».proof.Proof.Host
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference leaves its arguments as they were, and it has no semaphore. -/
theorem frame_reference : Cert.quiescent_Reference := fun m ρ _ =>
  (θ_run Cert.Reference.defs _ _).mono
    (fun r h => ⟨fun c => (h c).2, sem_eq_zero_of_no_sems (by decide) r.2⟩) (Cert.Reference.Lookups.run (F := Bits) m ρ)

/-- The same over the extended reals. -/
theorem frame_reference_ideal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Lookups.run (F := Ideal) m ρ)

/-- Kernel and reference end with the same words: both results are the table repeated. -/
theorem bitexact : Cert.bitexact_Kernel_Reference := by
  intro m ρ m' ρ' _ hagree
  refine ⟨fun c => Lookup.tiled (m ((c : Thread Cert.Kernel.nD Cert.Kernel.τ).loc Cert.Kernel.main_arg1)),
    Cert.Kernel.Tiles.run (F := Bits) m ρ, ?_⟩
  exact (θ_run Cert.Reference.defs _ _).mono
    (fun _ h c => ⟨(h c).1.trans (congrArg Lookup.tiled (hagree c).2), (h c).2⟩)
    (Cert.Reference.Lookups.run (F := Bits) m' ρ')

/-- Kernel and reference end with the same extended reals: both results are the table repeated. -/
theorem algebraic : Cert.algebraic_KernelIdeal_ReferenceIdeal := by
  intro m ρ m' ρ' _ hagree
  refine ⟨fun c => Lookup.tiled (m ((c : Thread Cert.KernelIdeal.nD Cert.KernelIdeal.τ).loc Cert.KernelIdeal.main_arg1)),
    Cert.KernelIdeal.Tiles.run (F := Ideal) m ρ, ?_⟩
  exact (θ_run Cert.ReferenceIdeal.defs _ _).mono
    (fun _ h c => ⟨(h c).1.trans (congrArg Lookup.tiled (hagree c).2), (h c).2⟩)
    (Cert.ReferenceIdeal.Lookups.run (F := Ideal) m' ρ')

/-- All the claims of the certificate. -/
theorem claim : Cert.Claim :=
  ⟨Cert.Kernel.Gen.facts, Cert.KernelIdeal.Gen.facts, Cert.ReferenceIdeal.Gen.facts, Cert.Reference.Gen.facts,
    fun m ρ _ => Cert.Kernel.Gen.frame m ρ, fun m ρ _ => Cert.KernelIdeal.Gen.frame m ρ,
    frame_reference_ideal, frame_reference, trivial, algebraic, bitexact⟩

end Cert.Proof

end
